-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2048x8 : Shape := ⟨2, ![2048, 8]⟩
abbrev S8x4096x1024 : Shape := ⟨3, ![8, 4096, 1024]⟩
abbrev S8x1024x2048 : Shape := ⟨3, ![8, 1024, 2048]⟩
abbrev S256x1024 : Shape := ⟨2, ![256, 1024]⟩
abbrev S256x8 : Shape := ⟨2, ![256, 8]⟩
abbrev S1x4096x1024 : Shape := ⟨3, ![1, 4096, 1024]⟩
abbrev S1x1024x2048 : Shape := ⟨3, ![1, 1024, 2048]⟩
abbrev S256 : Shape := ⟨1, ![256]⟩
abbrev S256x1 : Shape := ⟨2, ![256, 1]⟩
abbrev S4096x1024 : Shape := ⟨2, ![4096, 1024]⟩
abbrev S1024x2048 : Shape := ⟨2, ![1024, 2048]⟩
abbrev S256x4096 : Shape := ⟨2, ![256, 4096]⟩
abbrev S256x2048 : Shape := ⟨2, ![256, 2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x8, .f32⟩
  | .hbm, ⟨2, _⟩ => ⟨S8x4096x1024, .f32⟩
  | .hbm, ⟨3, _⟩ => ⟨S8x1024x2048, .f32⟩
  | .hbm, ⟨4, _⟩ => ⟨S8x4096x1024, .bf16⟩
  | .hbm, ⟨5, _⟩ => ⟨S8x1024x2048, .bf16⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x8, .f32⟩
  | .local _ .vmem, ⟨3, _⟩ => ⟨S256x8, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S256x1024, .f32⟩
  | .local _ .vmem, ⟨9, _⟩ => ⟨S256x1024, .f32⟩
  | .local _ .vmem, ⟨10, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_20 : BitVec 32 := 0#32
  let v61 : BitVec 1 := Scalar.cmpi .ne v60 c0_i32_20
  v61

def k0_off1 (i : grid0.Coords) : Fin 2 → Nat :=
  let arg1 : BitVec 32 := BitVec.ofNat 32 (i 1).val
  let c256_i32 : BitVec 32 := 256#32
  let v58 : BitVec 32 := Scalar.muli arg1 c256_i32
  let v68 : Index := Scalar.indexCast v58
  let c0_26 : Index := 0#32
  ![v68.toNat, 0]
def k0_cond2 (i : grid0.Coords) : BitVec 1 :=
  let arg0 : BitVec 32 := BitVec.ofNat 32 (i 0).val
  let c0_i32_21 : BitVec 32 := 0#32
  let v62 : BitVec 1 := Scalar.cmpi .ne arg0 c0_i32_21
  let v63 : BitVec 32 := Scalar.extui v62
  let c0_i32_22 : BitVec 32 := 0#32
  let v64 : BitVec 1 := Scalar.cmpi .ne v63 c0_i32_22
  v64

def k0_off2 (i : grid0.Coords) : Fin 2 → Nat :=
  let arg1 : BitVec 32 := BitVec.ofNat 32 (i 1).val
  let c256_i32 : BitVec 32 := 256#32
  let v58 : BitVec 32 := Scalar.muli arg1 c256_i32
  let v68 : Index := Scalar.indexCast v58
  let c0_26 : Index := 0#32
  ![v68.toNat, 0]
def k0_off3 (i : grid0.Coords) : Fin 2 → Nat :=
  let arg1 : BitVec 32 := BitVec.ofNat 32 (i 1).val
  let c256_i32 : BitVec 32 := 256#32
  let v58 : BitVec 32 := Scalar.muli arg1 c256_i32
  let v65 : Index := Scalar.indexCast v58
  let c0_23 : Index := 0#32
  ![v65.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== ReferenceIdeal.lean ====
abbrev S2048x1024 : Shape := ⟨2, ![2048, 1024]⟩
abbrev S2048x8 : Shape := ⟨2, ![2048, 8]⟩
abbrev S8x4096x1024 : Shape := ⟨3, ![8, 4096, 1024]⟩
abbrev S8x1024x2048 : Shape := ⟨3, ![8, 1024, 2048]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S2048x8x4096 : Shape := ⟨3, ![2048, 8, 4096]⟩
abbrev S2048x8x2048 : Shape := ⟨3, ![2048, 8, 2048]⟩
abbrev S2048x8x1024 : Shape := ⟨3, ![2048, 8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x8, .f32⟩
  | .hbm, ⟨2, _⟩ => ⟨S8x4096x1024, .f32⟩
  | .hbm, ⟨3, _⟩ => ⟨S8x1024x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x8, .f32⟩
  | .hbm, ⟨17, _⟩ => ⟨S2048x8, .f32⟩
  | .hbm, ⟨18, _⟩ => ⟨S2048x2, .f32⟩
  | .hbm, ⟨19, _⟩ => ⟨S2048x2, .i32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x2, .f32⟩
  | .hbm, ⟨24, _⟩ => ⟨S2048x2, .f32⟩
  | .hbm, ⟨25, _⟩ => ⟨S_, .f32⟩
  | .hbm, ⟨26, _⟩ => ⟨S2048x8, .f32⟩
  | .hbm, ⟨27, _⟩ => ⟨S2048, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i1⟩
  | .hbm, ⟨32, _⟩ => ⟨S_, .i32⟩
  | .hbm, ⟨33, _⟩ => ⟨S2048x1, .i32⟩
  | .hbm, ⟨34, _⟩ => ⟨S2048x1, .i32⟩
  | .hbm, ⟨35, _⟩ => ⟨S2048x1, .i32⟩
  | .hbm, ⟨36, _⟩ => ⟨S_, .i32⟩
  | .hbm, ⟨37, _⟩ => ⟨S2048x2, .i32⟩
  | .hbm, ⟨38, _⟩ => ⟨S2048x2, .i1⟩
  | .hbm, ⟨39, _⟩ => ⟨S_, .i32⟩
  | .hbm, ⟨40, _⟩ => ⟨S2048x2, .i32⟩
  | .hbm, ⟨41, _⟩ => ⟨S2048x2, .i32⟩
  | .hbm, ⟨42, _⟩ => ⟨S2048x2, .i32⟩
  | .hbm, ⟨43, _⟩ => ⟨S2048x2, .i32⟩
  | .hbm, ⟨44, _⟩ => ⟨S2048x2x1, .i32⟩
  | .hbm, ⟨45, _⟩ => ⟨S2048x2x1, .i32⟩
  | .hbm, ⟨46, _⟩ => ⟨S2048x2x2, .i32⟩
  | .hbm, ⟨47, _⟩ => ⟨S2048x8, .f32⟩
  | .hbm, ⟨48, _⟩ => ⟨S2048x8x4096, .f32⟩
  | .hbm, ⟨49, _⟩ => ⟨S2048x8x2048, .f32⟩
  | .hbm, ⟨50, _⟩ => ⟨S2048x8x2048, .f32⟩
  | .hbm, ⟨51, _⟩ => ⟨S2048x8x2048, .f32⟩
  | .hbm, ⟨52, _⟩ => ⟨S_, .f32⟩
  | .hbm, ⟨53, _⟩ => ⟨S2048x8x2048, .f32⟩
  | .hbm, ⟨54, _⟩ => ⟨S2048x8x2048, .f32⟩
  | .hbm, ⟨55, _⟩ => ⟨S_, .f32⟩
  | .hbm, ⟨56, _⟩ => ⟨S2048x8x2048, .f32⟩
  | .hbm, ⟨57, _⟩ => ⟨S2048x8x2048, .f32⟩
  | .hbm, ⟨58, _⟩ => ⟨S2048x8x2048, .f32⟩
  | .hbm, ⟨59, _⟩ => ⟨S2048x8x2048, .f32⟩
  | .hbm, ⟨60, _⟩ => ⟨S2048x8x2048, .f32⟩
  | .hbm, ⟨61, _⟩ => ⟨S8x1024x2048, .f32⟩
  | .hbm, ⟨62, _⟩ => ⟨S2048x8x1024, .f32⟩
  | .hbm, ⟨63, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.TopTwo.lean ====
/-
  The two greatest of eight numbers, as a stable sort picks them and as two rounds of "greatest, then lowest position
  holding it" pick them. Everything here is about plain functions on eight positions; no program is mentioned.
-/
module

public import Idealize.ShloMosaic.Lib.SortFacts
public import Idealize.ShloMosaic.Lib.Pipeline.ValueKit
public import Idealize.ShloMosaic.Lib.WordCmp

@[expose] public section

noncomputable section

namespace Cert.TopTwo

open Idealize.ShloMosaic Idealize.ShloMosaic.WordCmp

/-- Position `a` comes before position `b`: its number is greater, or the numbers are equal and `a` is lower. -/
def Beats {n : Nat} (x : Fin n → EReal) (a b : Fin n) : Prop := x b < x a ∨ (x a = x b ∧ a < b)

theorem Beats.trans {n : Nat} {x : Fin n → EReal} {a b c : Fin n} (h : Beats x a b) (h' : Beats x b c) : Beats x a c := by
  rcases h with h | ⟨h, hl⟩ <;> rcases h' with h' | ⟨h', hl'⟩
  · exact Or.inl (h'.trans h)
  · exact Or.inl (h' ▸ h)
  · exact Or.inl (h.symm ▸ h')
  · exact Or.inr ⟨h.trans h', hl.trans hl'⟩

theorem Beats.le {n : Nat} {x : Fin n → EReal} {a b : Fin n} (h : Beats x a b) : x b ≤ x a := by
  rcases h with h | h
  · exact h.le
  · exact h.1.symm.le

/-- Whoever comes first and holds an equal number stands lower. -/
theorem Beats.lt_of_eq {n : Nat} {x : Fin n → EReal} {a b : Fin n} (h : Beats x a b) (e : x b = x a) : a < b := by
  rcases h with h | h
  · exact absurd e h.ne
  · exact h.2

section Sorting

variable {n : Nat} (x : Fin n → EReal) (before : Fin n → Fin n → Bool) (hb : ∀ a b, before a b = true ↔ x b < x a)

include hb in
theorem insert_ordered (a : Fin n) (l : List (Fin n)) (hl : l.Pairwise (Beats x)) (ha : ∀ b ∈ l, a < b) :
    (insertBefore before a l).Pairwise (Beats x) := by
  induction l with
  | nil => exact List.pairwise_singleton _ _
  | cons b l ih =>
    rw [List.pairwise_cons] at hl
    by_cases h : before b a = true
    · have e : insertBefore before a (b :: l) = b :: insertBefore before a l := by
        simp [insertBefore, h]
      rw [e, List.pairwise_cons]
      refine ⟨fun c hc => ?_, ih hl.2 fun c hc => ha c (List.mem_cons_of_mem _ hc)⟩
      rcases List.mem_cons.mp ((perm_insertBefore before a l).mem_iff.mp hc) with rfl | hc
      · exact Or.inl ((hb _ _).mp h)
      · exact hl.1 c hc
    · have e : insertBefore before a (b :: l) = a :: b :: l := by
        simp [insertBefore, h]
      have hab : Beats x a b := by
        rcases lt_or_eq_of_le (not_lt.mp fun hx => h ((hb _ _).mpr hx)) with hx | hx
        · exact Or.inl hx
        · exact Or.inr ⟨hx.symm, ha b List.mem_cons_self⟩
      rw [e, List.pairwise_cons, List.pairwise_cons]
      refine ⟨fun c hc => ?_, hl⟩
      rcases List.mem_cons.mp hc with rfl | hc
      · exact hab
      · exact hab.trans (hl.1 c hc)

include hb in
theorem sort_ordered (l : List (Fin n)) (hl : l.Pairwise (· < ·)) : (stableSort before l).Pairwise (Beats x) := by
  induction l with
  | nil => exact List.Pairwise.nil
  | cons a l ih =>
    rw [List.pairwise_cons] at hl
    exact insert_ordered x before hb a _ (ih hl.2) fun b h => hl.1 b ((perm_stableSort before l).mem_iff.mp h)

include hb in
/-- The sorted positions come one after another in the order `Beats`. -/
theorem sortedFrom_beats (i j : Fin n) (hij : i < j) : Beats x (sortedFrom before i) (sortedFrom before j) := by
  have h := sort_ordered x before hb (List.finRange n) (List.pairwise_lt_finRange n)
  rw [List.pairwise_iff_get] at h
  exact h _ _ hij

end Sorting

/-- The first and the second position of the sort. -/
structure Pair (x : Fin 8 → EReal) (a b : Fin 8) : Prop where
  first : ∀ c, c ≠ a → Beats x a c
  second : ∀ c, c ≠ a → c ≠ b → Beats x b c
  ne : b ≠ a

theorem sorted_pair (x : Fin 8 → EReal) (before : Fin 8 → Fin 8 → Bool) (hb : ∀ a b, before a b = true ↔ x b < x a) :
    Pair x (sortedFrom before 0) (sortedFrom before 1) where
  first c hc := by
    obtain ⟨j, rfl⟩ := sortedFrom_surjective before c
    exact sortedFrom_beats x before hb 0 j (Fin.pos_iff_ne_zero.mpr fun h => hc (h ▸ rfl))
  second c hc hc' := by
    obtain ⟨j, rfl⟩ := sortedFrom_surjective before c
    refine sortedFrom_beats x before hb 1 j ?_
    have h0 : j ≠ 0 := fun h => hc (h ▸ rfl)
    have h1 : j ≠ 1 := fun h => hc' (h ▸ rfl)
    omega
  ne h := absurd (sortedFrom_injective before h) (by decide)

/-! ## Two rounds of "greatest, then lowest position" -/

/-- The greatest of eight numbers. -/
def greatest (x : Fin 8 → EReal) : EReal := Finset.univ.fold max ⊥ x

/-- The lowest position holding the greatest number, as a 32-bit word. -/
def place (x : Fin 8 → EReal) : BitVec 32 :=
  Finset.univ.fold IntOp.minsi 2147483647#32 fun k => if x k = greatest x then BitVec.ofNat 32 k.val else 8#32

/-- The numbers with the one at the greatest number's place replaced by minus one. -/
def masked (x : Fin 8 → EReal) (k : Fin 8) : EReal :=
  Scalar.select (IntOp.cmpi .eq (BitVec.ofNat 32 k.val) (place x)) (-1) (x k)

theorem greatest_eq (x : Fin 8 → EReal) (a : Fin 8) (h : ∀ c, x c ≤ x a) : greatest x = x a := by
  refine le_antisymm ?_ ?_
  · exact (Finset.fold_max_le _).mpr ⟨bot_le, fun c _ => h c⟩
  · exact (Finset.le_fold_max _).mpr (Or.inr ⟨a, Finset.mem_univ _, le_rfl⟩)

theorem toInt_minsi (a b : BitVec 32) : (IntOp.minsi a b).toInt = min a.toInt b.toInt := by
  unfold IntOp.minsi
  by_cases h : a.toInt < b.toInt
  · have e : a.slt b = true := by simpa [BitVec.slt] using h
    rw [e, min_eq_left h.le]; rfl
  · have e : a.slt b = false := by simpa [BitVec.slt] using h
    rw [e, min_eq_right (not_lt.mp h)]; rfl

theorem toInt_small (k : Fin 8) : (BitVec.ofNat 32 k.val).toInt = (k.val : Int) := by revert k; decide

theorem place_eq (x : Fin 8 → EReal) (a : Fin 8) (h : ∀ c, c ≠ a → Beats x a c) : place x = BitVec.ofNat 32 a.val := by
  have hle : ∀ c, x c ≤ x a := fun c => by
    by_cases hc : c = a
    · rw [hc]
    · exact (h c hc).le
  have hg := greatest_eq x a hle
  apply BitVec.eq_of_toInt_eq
  have hf : (place x).toInt = Finset.univ.fold min (2147483647 : Int)
      fun k => if x k = greatest x then (k.val : Int) else 8 := by
    unfold place
    rw [← Finset.fold_hom (op' := (min : Int → Int → Int)) (m := BitVec.toInt) toInt_minsi]
    refine Finset.fold_congr fun k _ => ?_
    by_cases hk : x k = greatest x
    · rw [if_pos hk, if_pos hk, toInt_small]
    · rw [if_neg hk, if_neg hk]; rfl
  rw [hf, toInt_small]
  refine le_antisymm ?_ ?_
  · refine (Finset.fold_min_le _).mpr (Or.inr ⟨a, Finset.mem_univ _, ?_⟩)
    rw [if_pos hg.symm]
  · refine (Finset.le_fold_min _).mpr ⟨by omega, fun c _ => ?_⟩
    by_cases hc : x c = greatest x
    · rw [if_pos hc]
      by_cases hca : c = a
      · rw [hca]
      · have := (h c hca).lt_of_eq (hc.trans hg)
        omega
    · rw [if_neg hc]; omega

theorem select_place (x : Fin 8 → EReal) (a e : Fin 8) (h : place x = BitVec.ofNat 32 a.val) (u v : EReal) :
    Scalar.select (IntOp.cmpi .eq (place x) (BitVec.ofNat 32 e.val)) u v = if e = a then u else v := by
  rw [h, cmpi_eq_ofNat (by omega) (by omega), select_decide]
  by_cases hea : e = a
  · rw [if_pos hea, if_pos (by rw [hea])]
  · rw [if_neg hea, if_neg fun h' => hea (Fin.ext h'.symm)]

theorem masked_eq (x : Fin 8 → EReal) (a : Fin 8) (h : place x = BitVec.ofNat 32 a.val) (k : Fin 8) :
    masked x k = if k = a then -1 else x k := by
  unfold masked
  rw [h, cmpi_eq_ofNat (by omega) (by omega), select_decide]
  by_cases hea : k = a
  · rw [if_pos hea, if_pos (by rw [hea])]
  · rw [if_neg hea, if_neg fun h' => hea (Fin.ext h')]

/-- What the second round finds when every number is above minus one. -/
theorem second_round (x : Fin 8 → EReal) (a b : Fin 8) (h : Pair x a b) (hx : ∀ k, -1 < x k) :
    greatest (masked x) = x b ∧ place (masked x) = BitVec.ofNat 32 b.val := by
  have hm := masked_eq x a (place_eq x a h.first)
  have hb : masked x b = x b := by rw [hm, if_neg h.ne]
  have hB : ∀ c, c ≠ b → Beats (masked x) b c := fun c hc => by
    unfold Beats
    rw [hb, hm c]
    by_cases hca : c = a
    · rw [if_pos hca]; exact Or.inl (hx b)
    · rw [if_neg hca]; exact h.second c hca hc
  refine ⟨?_, place_eq _ b hB⟩
  rw [greatest_eq (masked x) b fun c => ?_, hb]
  by_cases hc : c = b
  · rw [hc]
  · exact (hB c hc).le

end Cert.TopTwo
-- ==== Proof.Softmax.lean ====
/-
  The softmax of a row of eight scores over the extended reals, and the weight each expert gets from it: the share of
  the two greatest probabilities. `roundWeight` computes the weight by two rounds of "greatest, then lowest position";
  `share` reads it off the two positions a sort puts first. The two agree on every row, with no condition on the scores:
  either every probability is a real number from zero up and one of them is positive, or (a row whose greatest score
  is infinite) every probability is the quotient of zero by zero and every weight is zero.
-/
module

public import proofs.«01_k».proof.Proof.TopTwo

@[expose] public section

noncomputable section

namespace Cert.TopTwo

open Idealize.ShloMosaic

/-- The softmax of a row of scores. -/
def probs (l : Fin 8 → EReal) (k : Fin 8) : EReal :=
  Ideal.div (Ideal.exp (l k - greatest l)) (∑ j, Ideal.exp (l j - greatest l))

/-- Expert `e`'s weight by two rounds of selection. -/
def roundWeight (x : Fin 8 → EReal) (e : Fin 8) : EReal :=
  Ideal.div
    (Scalar.select (IntOp.cmpi .eq (place x) (BitVec.ofNat 32 e.val)) (greatest x) 0
      + Scalar.select (IntOp.cmpi .eq (place (masked x)) (BitVec.ofNat 32 e.val)) (greatest (masked x)) 0)
    (greatest x + greatest (masked x))

/-- Expert `e`'s weight when `a` holds the greatest number and `b` the second. -/
def share (x : Fin 8 → EReal) (a b e : Fin 8) : EReal :=
  if e = b then Ideal.div (x b) (x a + x b) else if e = a then Ideal.div (x a) (x a + x b) else 0

theorem le_greatest (l : Fin 8 → EReal) (k : Fin 8) : l k ≤ greatest l :=
  (Finset.le_fold_max _).mpr (Or.inr ⟨k, Finset.mem_univ _, le_rfl⟩)

theorem exists_greatest (l : Fin 8 → EReal) : ∃ k, l k = greatest l := by
  obtain ⟨k, hk⟩ := Finite.exists_max l
  exact ⟨k, (greatest_eq l k hk).symm⟩

theorem exp_nonneg (x : EReal) : 0 ≤ Ideal.exp x := by
  induction x with
  | bot => exact le_rfl
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem sum_ne_top (f : Fin 8 → EReal) (h : ∀ k, f k ≠ ⊤) (h0 : ∀ k, 0 ≤ f k) : (∑ k, f k) ≠ ⊤ := by
  have : ∀ s : Finset (Fin 8), (∑ k ∈ s, f k) ≠ ⊤ := fun s => by
    induction s using Finset.induction_on with
    | empty => rw [Finset.sum_empty]; exact EReal.zero_ne_top
    | insert a s ha ih => rw [Finset.sum_insert ha]; exact EReal.add_ne_top (h a) ih
  exact this _

/-- The probabilities of a row are all the quotient of zero by zero, or nonnegative with one positive. -/
theorem probs_cases (l : Fin 8 → EReal) :
    (∀ k, probs l k = ⊥) ∨ ((∀ k, 0 ≤ probs l k) ∧ ∃ k, 0 < probs l k) := by
  by_cases hz : ∀ k, Ideal.exp (l k - greatest l) = 0
  · refine Or.inl fun k => ?_
    unfold probs
    rw [hz k, Finset.sum_eq_zero fun j _ => hz j]
    simp [Ideal.div]
  right
  obtain ⟨k0, hk0⟩ := exists_greatest l
  -- the greatest score is a real number, for otherwise every exponential would be zero
  have hreal : ∃ r : ℝ, greatest l = (r : EReal) := by
    rcases hg : greatest l with _ | r
    · refine absurd (fun k => ?_) hz
      have hk : l k = ⊥ := le_bot_iff.mp ((le_greatest l k).trans hg.le)
      rw [hk, sub_eq_add_neg, EReal.bot_add]; rfl
    · rcases r with _ | r
      · refine absurd (fun k => ?_) hz
        have : greatest l = ⊤ := hg
        rw [this, sub_eq_add_neg, EReal.neg_top, EReal.add_bot]; rfl
      · exact ⟨r, rfl⟩
  obtain ⟨r, hr⟩ := hreal
  have hfin : ∀ k, Ideal.exp (l k - greatest l) ≠ ⊤ := fun k => by
    refine exp_ne_top ?_
    have hk := le_greatest l k
    rw [hr] at hk ⊢
    have hk' : l k ≠ ⊤ := fun h => by rw [h] at hk; exact absurd (top_le_iff.mp hk) (EReal.coe_ne_top r)
    rw [sub_eq_add_neg, ← EReal.coe_neg]
    exact EReal.add_ne_top hk' (EReal.coe_ne_top _)
  have hone : Ideal.exp (l k0 - greatest l) = 1 := by
    rw [hk0, hr, ← EReal.coe_sub, sub_self, Ideal.exp_coe, Real.exp_zero, EReal.coe_one]
  have hpos : 0 < ∑ j, Ideal.exp (l j - greatest l) := by
    refine lt_of_lt_of_le ?_ (Finset.single_le_sum (fun j _ => exp_nonneg (l j - greatest l)) (Finset.mem_univ k0))
    rw [hone]; exact one_pos
  have htop := sum_ne_top _ hfin fun k => exp_nonneg _
  have hdiv : ∀ k, probs l k = Ideal.exp (l k - greatest l) * (∑ j, Ideal.exp (l j - greatest l))⁻¹ := fun k => by
    unfold probs Ideal.div
    rw [if_neg hpos.ne']
  refine ⟨fun k => ?_, k0, ?_⟩
  · rw [hdiv]; exact mul_nonneg (exp_nonneg _) (EReal.inv_nonneg_of_nonneg hpos.le)
  · rw [hdiv, hone, one_mul]; exact EReal.inv_pos_of_pos_ne_top hpos htop

/-- A quotient by the negative infinity is zero. -/
theorem div_bot' (x : EReal) : Ideal.div x ⊥ = 0 := by
  unfold Ideal.div
  rw [if_neg EReal.bot_ne_zero, EReal.inv_bot, mul_zero]

theorem share_bot (x : Fin 8 → EReal) (a b e : Fin 8) (h : ∀ k, x k = ⊥) : share x a b e = 0 := by
  unfold share
  rw [h a, h b, EReal.bot_add, div_bot']
  split_ifs <;> rfl

theorem roundWeight_bot (x : Fin 8 → EReal) (e : Fin 8) (h : ∀ k, x k = ⊥) : roundWeight x e = 0 := by
  have hg : greatest x = ⊥ := (greatest_eq x 0 fun c => by rw [h, h]).trans (h 0)
  unfold roundWeight
  rw [hg, EReal.bot_add, div_bot']

/-- The two ways of computing the weights agree. -/
theorem roundWeight_eq (l : Fin 8 → EReal) (a b : Fin 8) (h : Pair (probs l) a b) (e : Fin 8) :
    roundWeight (probs l) e = share (probs l) a b e := by
  rcases probs_cases l with hb | ⟨h0, k, hk⟩
  · rw [roundWeight_bot _ _ hb, share_bot _ _ _ _ hb]
  have hle : ∀ c, probs l c ≤ probs l a := fun c => by
    by_cases hc : c = a
    · rw [hc]
    · exact (h.first c hc).le
  have hm1 : ∀ k, -1 < probs l k := fun k => lt_of_lt_of_le (by norm_num) (h0 k)
  have hd : probs l a + probs l b ≠ 0 :=
    (add_pos_of_pos_of_nonneg (hk.trans_le (hle k)) (h0 b)).ne'
  obtain ⟨hg2, hp2⟩ := second_round _ a b h hm1
  unfold roundWeight share
  rw [greatest_eq _ a hle, hg2, select_place _ a e (place_eq _ a h.first), select_place _ b e hp2]
  by_cases hb : e = b
  · rw [if_neg (fun ha => h.ne (hb.symm.trans ha)), if_pos hb, if_pos hb, zero_add]
  · rw [if_neg hb, if_neg hb, add_zero]
    by_cases ha : e = a
    · rw [if_pos ha, if_pos ha]
    · rw [if_neg ha, if_neg ha]
      unfold Ideal.div
      rw [if_neg hd, zero_mul]

/-- The bit pattern of the negative infinity. -/
theorem ofBits_bottom : Ideal.ofBits .f32 4286578688#32 = (⊥ : EReal) := by
  simp [Ideal.ofBits, Ideal.ieee]

/-- The bit pattern of minus one. -/
theorem ofBits_minus_one : Ideal.ofBits .f32 3212836864#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num

end Cert.TopTwo
-- ==== Proof.Layer.lean ====
/-
  The expert layer as a formula over the extended reals: each token's output is the sum over the eight experts of the
  expert's weight for that token times the expert's gated two-layer product.
-/
module

public import proofs.«01_k».proof.Proof.Softmax

@[expose] public section

noncomputable section

namespace Cert.TopTwo

open Idealize.ShloMosaic

/-- A token's gated activation: the gate through `x * logistic x`, times the up projection. `x` is the token's row, `a`
    the expert's stacked gate and up weights, gate first. -/
def gated (x : Fin 1024 → EReal) (a : Fin 4096 → Fin 1024 → EReal) (k : Fin 2048) : EReal :=
  (∑ l, x l * a ⟨k.val, by omega⟩ l) * Ideal.logistic (∑ l, x l * a ⟨k.val, by omega⟩ l)
    * ∑ l, x l * a ⟨2048 + k.val, by omega⟩ l

/-- The layer's output for one token at one coordinate, from the token's row `x`, its scores `s`, the stacked first
    weights `a` and that coordinate's second weights `b`. -/
def layer (x : Fin 1024 → EReal) (s : Fin 8 → EReal) (a : Fin 8 → Fin 4096 → Fin 1024 → EReal)
    (b : Fin 8 → Fin 2048 → EReal) : EReal :=
  ∑ e, (∑ k, gated x (a e) k * b e k) * roundWeight (probs s) e

end Cert.TopTwo
-- ==== Proof.KernelIdealBody.lean ====
/-
  The kernel's body at one grid point: what it leaves in the output window and in the scratch accumulator.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 256 rows of the accumulator that belong to the token chunk of grid coordinates `i`. -/
abbrev rows (i : grid0.Coords) : Rect S2048x1024 :=
  Rect.unit (s := S2048x1024) (k0_off3 i) S256x1024.size (k0_off3_inb i)

/-- The accumulator's rows after the body at grid coordinates `i`: the weighted expert output, added to what the rows
    held unless this is the first expert. -/
def newRows (i : grid0.Coords) (x0 : Vec F S256x1024 .f32) (x1 : Vec F S256x8 .f32) (x2 : Vec F S1x4096x1024 .bf16)
    (x3 : Vec F S1x1024x2048 .bf16) (old : Vec F S256x1024 .f32) : Vec F S256x1024 .f32 :=
  if k0_cond1 i = 1#1 then k0_pay2 (k0_pay4 i x1) (k0_pay5 x0) x2 x3
  else k0_pay3 (k0_pay4 i x1) (k0_pay5 x0) x2 x3 old

theorem cond2_iff (i : grid0.Coords) : k0_cond2 i = 1#1 ↔ ¬ k0_cond1 i = 1#1 := by
  revert i
  decide +kernel

set_option maxHeartbeats 1000000 in
theorem sound_kernel (c : Dev nD) (E : Set ℕ) (i : grid0.Coords)
    (arg2 : Memref sig .tc .vmem S256x1024 .f32) (harg2 : arg2.IsWhole)
    (arg3 : Memref sig .tc .vmem S256x8 .f32) (harg3 : arg3.IsWhole)
    (arg4 : Memref sig .tc .vmem S1x4096x1024 .bf16) (harg4 : arg4.IsWhole)
    (arg5 : Memref sig .tc .vmem S1x1024x2048 .bf16) (harg5 : arg5.IsWhole)
    (arg6 : Memref sig .tc .vmem S256x1024 .f32) (harg6 : arg6.IsWhole)
    (arg7 : Memref sig .tc .vmem S2048x1024 .f32) (harg7 : arg7.IsWhole)
    (x0 : Vec F S256x1024 .f32) (x1 : Vec F S256x8 .f32) (x2 : Vec F S1x4096x1024 .bf16)
    (x3 : Vec F S1x1024x2048 .bf16) (s : Vec F S2048x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (newRows i x0 x1 x2 x3 fun y => s ((rows i).emb y))
            ∗ (∃ s' : Vec F S2048x1024 .f32, ⌜(∀ y, s' ((rows i).emb y) = newRows i x0 x1 x2 x3 (fun y => s ((rows i).emb y)) y)
                  ∧ ∀ z, z ∉ (rows i).set → s' z = s z⌝ ∗ owns (c : Thread nD τ) arg7 fullShare s')) -∗ K ⟨⟩))
      ⊢ wp frame (wpE (defs₀ (F := F)) Variants.none c none) E
          (cc0__moe_body i arg2 harg2 arg3 harg3 arg4 harg4 arg5 harg5 arg6 harg6 arg7 harg7) K := by
  have h12 := cond2_iff i
  simp only [cc0__moe_body_eq_skeleton]; unfold cc0__moe_body_skel
  simp only [k0_part1_eq_skeleton]; unfold k0_part1_skel
  unfold newRows
  by_cases h1 : k0_cond1 i = 1#1
  · have h2 : ¬ k0_cond2 i = 1#1 := fun h => (h12.mp h) h1
    simp only [if_pos h1]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    subst hf2 hf3 hf4 hf5 hf7
    sl_exec
    sl_step
    iapply Hk
    unfold sound_kernel.sl.v66 sound_kernel.sl.H7_1
    have e2 : arg2.view.readAt (Elt F) (Rect.unit ![0, 0] ![256, 1024] inb_S256x1024_S256x1024_0_0).toLoadRect f2
        = arg2.view.read (Elt F) f2 := View.readAt_full _ _ _
    have e3 : arg3.view.readAt (Elt F) (Rect.unit ![0, 0] ![256, 8] inb_S256x8_S256x8_0_0).toLoadRect f3
        = arg3.view.read (Elt F) f3 := View.readAt_full _ _ _
    have e4 : arg4.view.readAt (Elt F) (Rect.unit ![0, 0, 0] ![1, 4096, 1024] inb_S1x4096x1024_S1x4096x1024_0_0_0).toLoadRect f4
        = arg4.view.read (Elt F) f4 := View.readAt_full _ _ _
    have e5 : arg5.view.readAt (Elt F) (Rect.unit ![0, 0, 0] ![1, 1024, 2048] inb_S1x1024x2048_S1x1024x2048_0_0_0).toLoadRect f5
        = arg5.view.read (Elt F) f5 := View.readAt_full _ _ _
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      refine (View.read_writes_full arg6.view f6 inb_S256x1024_S256x1024_0_0 _ []).trans ?_
      refine (View.readCov_cons_toLoadRect arg7.view (rows i) _ []).trans ?_
      rw [e2, e3, e4, e5]
    iexists _; isplitr
    swap
    · iexists _; isplitr
      swap; · iexact H7
      ipureintro; rfl
    ipureintro
    refine ⟨fun y => ?_, fun z hz => ?_⟩
    · refine (View.read_writes_cons_emb arg7.view f7 (rows i) _ [] y).trans (congrFun ?_ y)
      rw [e2, e3, e4, e5]
    · exact View.read_writes_cons_miss arg7.view f7 ⟨rows i, _⟩ [] z hz
  · have h2 := h12.mpr h1
    simp only [if_neg h1]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    subst hf2 hf3 hf4 hf5 hf7
    sl_exec
    sl_step
    iapply Hk
    unfold sound_kernel.sl.v66_1 sound_kernel.sl.H7_1_1 sound_kernel.sl.v69
    have e7 : arg7.view.readAt (Elt F) (Rect.unit (k0_off2 i) ![256, 1024] (k0_off2_inb i h2)).toLoadRect f7
        = fun y => arg7.view.read (Elt F) f7 ((rows i).emb y) := rfl
    have e2 : arg2.view.readAt (Elt F) (Rect.unit ![0, 0] ![256, 1024] inb_S256x1024_S256x1024_0_0).toLoadRect f2
        = arg2.view.read (Elt F) f2 := View.readAt_full _ _ _
    have e3 : arg3.view.readAt (Elt F) (Rect.unit ![0, 0] ![256, 8] inb_S256x8_S256x8_0_0).toLoadRect f3
        = arg3.view.read (Elt F) f3 := View.readAt_full _ _ _
    have e4 : arg4.view.readAt (Elt F) (Rect.unit ![0, 0, 0] ![1, 4096, 1024] inb_S1x4096x1024_S1x4096x1024_0_0_0).toLoadRect f4
        = arg4.view.read (Elt F) f4 := View.readAt_full _ _ _
    have e5 : arg5.view.readAt (Elt F) (Rect.unit ![0, 0, 0] ![1, 1024, 2048] inb_S1x1024x2048_S1x1024x2048_0_0_0).toLoadRect f5
        = arg5.view.read (Elt F) f5 := View.readAt_full _ _ _
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      refine (View.read_writes_full arg6.view f6 inb_S256x1024_S256x1024_0_0 _ []).trans ?_
      refine (View.readCov_cons_toLoadRect arg7.view (rows i) _ []).trans ?_
      rw [e2, e3, e4, e5, e7]
      rfl
    iexists _; isplitr
    swap
    · iexists _; isplitr
      swap; · iexact H7
      ipureintro; rfl
    ipureintro
    refine ⟨fun y => ?_, fun z hz => ?_⟩
    · refine (View.read_writes_cons_emb arg7.view f7 (rows i) _ [] y).trans (congrFun ?_ y)
      rw [e2, e3, e4, e5, e7]
      rfl
    · exact View.read_writes_cons_miss arg7.view f7 ⟨rows i, _⟩ [] z hz

end Cert.KernelIdeal.Body

end
-- ==== Proof.KernelIdealRun.lean ====
/-
  The whole run: the accumulator's contents point by point, the body obligation, and what every terminating run leaves.

  Grid point `8 * e + k` handles expert `e` on token chunk `k`. After it, the chunk's rows of the accumulator (and the
  output window) hold `acc` at that point: the expert's weighted output added to `acc` at point `8 * (e - 1) + k`.
-/
module

public import proofs.«01_k».proof.Proof.KernelIdealBody

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- The rows at a point of the first expert. -/
def firstRows (c : Dev nD) (t : Fin cfg0.N) : Vec F S256x1024 .f32 :=
  k0_pay2 (k0_pay4 (grid0.coords t) (iblk m c 1 t)) (k0_pay5 (iblk m c 0 t)) (iblk m c 2 t) (iblk m c 3 t)

/-- The rows at a point of a later expert, over what they held. -/
def nextRows (c : Dev nD) (t : Fin cfg0.N) (old : Vec F S256x1024 .f32) : Vec F S256x1024 .f32 :=
  k0_pay3 (k0_pay4 (grid0.coords t) (iblk m c 1 t)) (k0_pay5 (iblk m c 0 t)) (iblk m c 2 t) (iblk m c 3 t) old

/-- The accumulator's rows of point `n`'s chunk after point `n`. -/
def acc (c : Dev nD) (n : ℕ) (h : n < cfg0.N) : Vec F S256x1024 .f32 :=
  if h8 : n < 8 then firstRows m c ⟨n, h⟩
  else nextRows m c ⟨n, h⟩ (acc c (n - 8) (by omega))
termination_by n
decreasing_by omega

theorem acc_first (c : Dev nD) (n : ℕ) (h : n < cfg0.N) (h8 : n < 8) : acc m c n h = firstRows m c ⟨n, h⟩ := by
  rw [acc, dif_pos h8]

theorem acc_next (c : Dev nD) (n : ℕ) (h : n + 8 < cfg0.N) :
    acc m c (n + 8) h = nextRows m c ⟨n + 8, h⟩ (acc m c n (by omega)) := by
  rw [acc, dif_neg (by omega)]
  congr 1

/-! ## The rows of a point -/

theorem cond1_iff : ∀ t : Fin grid0.N, k0_cond1 (grid0.coords t) = 1#1 ↔ t.val < 8 := by decide +kernel

theorem off3_0 : ∀ t : Fin grid0.N, k0_off3 (grid0.coords t) 0 = 256 * (t.val % 8) := by decide +kernel

theorem off3_1 : ∀ t : Fin grid0.N, k0_off3 (grid0.coords t) 1 = 0 := by decide +kernel

theorem rows_emb_congr (t u : Fin grid0.N) (h : t.val % 8 = u.val % 8) (y : S256x1024.Idx) :
    (rows (grid0.coords t)).emb y = (rows (grid0.coords u)).emb y := by
  refine (Rect.emb_eq_of_coords (rows (grid0.coords t)) y _ fun a => ?_)
  match a with
  | 0 =>
    show k0_off3 (grid0.coords u) 0 + 1 * (y 0).val = k0_off3 (grid0.coords t) 0 + 1 * (y 0).val
    rw [off3_0, off3_0, h]
  | 1 =>
    show k0_off3 (grid0.coords u) 1 + 1 * (y 1).val = k0_off3 (grid0.coords t) 1 + 1 * (y 1).val
    rw [off3_1, off3_1]

theorem rows_emb_not_mem (t u : Fin grid0.N) (h : t.val % 8 ≠ u.val % 8) (y : S256x1024.Idx) :
    (rows (grid0.coords t)).emb y ∉ (rows (grid0.coords u)).set := by
  refine Rect.not_mem_set_of_axis (rows (grid0.coords u)) _ (0 : Fin 2) (256 * (u.val % 8)) 256 (off3_0 u) rfl rfl ?_
  have e : (((rows (grid0.coords t)).emb y) 0).val = k0_off3 (grid0.coords t) 0 + 1 * (y 0).val := rfl
  rw [e, off3_0]
  have hy : (y 0).val < 256 := (y 0).isLt
  omega

/-! ## The invariant -/

/-- Before point `p`, each of the last eight points' chunks holds what that point left in it. -/
def Good (c : Dev nD) (p : ℕ) (s : Vec F S2048x1024 .f32) : Prop :=
  ∀ (n : ℕ) (h : n < cfg0.N), n < p → p ≤ n + 8 → ∀ y, s ((rows (grid0.coords ⟨n, h⟩)).emb y) = acc m c n h y

theorem newRows_eq_acc (c : Dev nD) (t : Fin cfg0.N) (s : Vec F S2048x1024 .f32) (hs : Good m c t.val s) :
    newRows (grid0.coords t) (iblk m c 0 t) (iblk m c 1 t) (iblk m c 2 t) (iblk m c 3 t)
      (fun y => s ((rows (grid0.coords t)).emb y)) = acc m c t.val t.isLt := by
  unfold newRows
  by_cases h8 : t.val < 8
  · rw [if_pos ((cond1_iff t).mpr h8), acc_first m c t.val t.isLt h8]
    rfl
  · rw [if_neg (fun h => h8 ((cond1_iff t).mp h))]
    obtain ⟨n, hn⟩ : ∃ n, t.val = n + 8 := ⟨t.val - 8, by omega⟩
    obtain ⟨k, hk⟩ := t
    simp only at hn h8 hs
    subst hn
    rw [acc_next]
    unfold nextRows
    congr 1
    funext y
    have hk' : n < grid0.N := lt_of_le_of_lt (Nat.le_add_right n 8) hk
    rw [rows_emb_congr ⟨n + 8, hk⟩ ⟨n, hk'⟩ (by simp) y]
    exact hs n hk' (by omega) le_rfl y

theorem good_step (c : Dev nD) (t : Fin cfg0.N) (s s' : Vec F S2048x1024 .f32) (hs : Good m c t.val s)
    (hnew : ∀ y, s' ((rows (grid0.coords t)).emb y)
      = newRows (grid0.coords t) (iblk m c 0 t) (iblk m c 1 t) (iblk m c 2 t) (iblk m c 3 t)
          (fun y => s ((rows (grid0.coords t)).emb y)) y)
    (hold : ∀ z, z ∉ (rows (grid0.coords t)).set → s' z = s z) : Good m c (t.val + 1) s' := by
  intro n h hlt hle y
  by_cases e : n = t.val
  · subst e
    rw [← newRows_eq_acc m c t s hs]
    exact hnew y
  · rw [hold _ (rows_emb_not_mem ⟨n, h⟩ t (by simp only; omega) y)]
    exact hs n h (by omega) (by omega) y

/-- Before the first point nothing is said of the accumulator. -/
theorem good_zero (c : Dev nD) (s : Vec F S2048x1024 .f32) : Good m c 0 s := fun n h hlt => absurd hlt (Nat.not_lt_zero n)

/-- The invariant: the accumulator at some contents that are `Good`, and the generator register. -/
def Inv (c : Dev nD) (p : ℕ) : sProp 𝕄 :=
  iprop((∃ s : Vec F S2048x1024 .f32, ⌜Good m c p s⌝ ∗ owns (c : Thread nD τ) (Memref.whole cc0_scratch0) fullShare s) ∗ ∃ r, prngReg c r)

theorem inv_in (c : Dev nD) : Pipeline.ΦA spec0 c ⊢ Inv m c 0 := by
  unfold Pipeline.ΦA Inv
  rw [scopedRest0_eq]
  iintro ⟨⟨%f, H⟩, Hr⟩
  isplitl [H]
  · iexists f
    isplitr
    · ipureintro; exact good_zero m c f
    · rw [owns_whole]; iexact H
  · iexact Hr

theorem inv_out (c : Dev nD) (p : ℕ) : Inv m c p ⊢ Pipeline.ΦA spec0 c := by
  unfold Pipeline.ΦA Inv
  rw [scopedRest0_eq]
  simp only [owns_whole]
  iintro ⟨⟨%f, -, H⟩, Hr⟩
  isplitl [H]
  · iexists f; iexact H
  · iexact Hr

/-! ## The proof data and the body obligation -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ p := Inv m c p.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem inv_castSucc (c : Dev nD) (t : Fin cfg0.N) : (dats m 0 c).Φ t.castSucc = Inv m c t.val := by
  dsimp only [dats]; exact congrArg (Inv m c) (Fin.val_castSucc t)
theorem inv_succ (c : Dev nD) (t : Fin cfg0.N) : (dats m 0 c).Φ t.succ = Inv m c (t.val + 1) := by
  dsimp only [dats]; exact congrArg (Inv m c) (Fin.val_succ t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [inv_castSucc, inv_succ, show (dats m 0 c).owesAt () t.succ = (dats m 0 c).owesAt () t.castSucc from rfl,
    after0_0, after0_1, after0_2, after0_3, after0_4]
  unfold Inv
  iintro ⟨⟨⟨%s, %hs, HS⟩, Hg⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk m c 0 t) (iblk m c 1 t) (iblk m c 2 t)
    (iblk m c 3 t) s _)
  isplitl [H0]; · iexact H0
  isplitl [H1]; · iexact H1
  isplitl [H2]; · iexact H2
  isplitl [H3]; · iexact H3
  isplitl [H4]; · iexists _; iexact H4
  isplitl [HS]; · iexact HS
  rw [newRows_eq_acc m c t s hs]
  iintro ⟨H0, H1, H2, H3, H4, ⟨%s', %hs', HS⟩⟩
  isplitl [HS Hg]
  · isplitl [HS]
    · iexists s'
      isplitr
      · ipureintro
        exact good_step m c t s s' hs (fun y => by rw [newRows_eq_acc m c t s hs]; exact hs'.1 y) hs'.2
      · iexact HS
    · iexact Hg
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every run from zero counters terminates, each buffer as the pipeline leaves it and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := inv_in m) (hout := fun c => inv_out m c _) (Q' := _) (hQ' := fun _ h => h)

/-- The arguments end unchanged and every counter ends at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.KernelIdeal.Body

end
-- ==== Proof.KernelRows.lean ====
/-
  The rows one grid point computes, element by element over the extended reals: the expert's weight for the token, times
  the down projection of the gated activations.
-/
module

public import proofs.«01_k».proof.Proof.Layer
public import proofs.«01_k».proof.Proof.KernelIdealRun

@[expose] public section

set_option maxRecDepth 16384

noncomputable section

namespace Cert.KernelIdeal.Body

open Cert.KernelIdeal Cert.KernelIdeal.Gen Cert.TopTwo
open Idealize.ShloMosaic Idealize.ShloMosaic.TcCoe Idealize.SL.Sem

theorem weight_apply (i : grid0.Coords) (v : FVec Ideal S256x8 .f32) (r : Fin 256) :
    k0_pay4 (F := Ideal) i v (ix1 r) = roundWeight (probs fun k => v (ix2 r k)) (i 0) := by
  pointwise [k0_pay4]
  rw [ofBits_bottom, ofBits_minus_one]
  rfl

theorem product_apply (w : FVec Ideal S256 .f32) (x : FVec Ideal S256x1024 .f32) (a : FVec Ideal S1x4096x1024 .bf16)
    (b : FVec Ideal S1x1024x2048 .bf16) (r : Fin 256) (d : Fin 1024) :
    k0_pay1 (F := Ideal) w (k0_pay5 x) a b (ix2 r d)
      = (∑ k, gated (fun l => x (ix2 r l)) (fun n l => a (ix3 0 n l)) k * b (ix3 0 d k)) * w (ix1 r) := by
  pointwise [k0_pay1, k0_pay5]
  rfl

theorem first_apply (w : FVec Ideal S256 .f32) (x : FVec Ideal S256x1024 .f32) (a : FVec Ideal S1x4096x1024 .bf16)
    (b : FVec Ideal S1x1024x2048 .bf16) (r : Fin 256) (d : Fin 1024) :
    k0_pay2 (F := Ideal) w (k0_pay5 x) a b (ix2 r d) = k0_pay1 (F := Ideal) w (k0_pay5 x) a b (ix2 r d) := by
  pointwise [k0_pay2]

theorem next_apply (w : FVec Ideal S256 .f32) (x : FVec Ideal S256x1024 .f32) (a : FVec Ideal S1x4096x1024 .bf16)
    (b : FVec Ideal S1x1024x2048 .bf16) (old : FVec Ideal S256x1024 .f32) (r : Fin 256) (d : Fin 1024) :
    k0_pay3 (F := Ideal) w (k0_pay5 x) a b old (ix2 r d)
      = old (ix2 r d) + k0_pay1 (F := Ideal) w (k0_pay5 x) a b (ix2 r d) := by
  pointwise [k0_pay3]

end Cert.KernelIdeal.Body
-- ==== Proof.KernelBlocks.lean ====
/-
  The blocks a grid point reads, as entries of the arguments. Grid point `8 * e + k` reads tokens `256 * k` to
  `256 * k + 255` of the hidden states and of the scores, and expert `e`'s two weight matrices.
-/
module

public import proofs.«01_k».proof.Proof.KernelRows

@[expose] public section

set_option maxRecDepth 16384

noncomputable section

namespace Cert.KernelIdeal.Body

open Cert.KernelIdeal Cert.KernelIdeal.Gen Cert.TopTwo
open Idealize.ShloMosaic Idealize.ShloMosaic.TcCoe Idealize.SL.Sem

variable (m : (ℓ : Loc nD τ sig) → Buf (Elt Ideal) ℓ)

theorem idx : ∀ t : Fin cfg0.N, win0_0.index t = ![t.val % 8, 0] ∧ win0_1.index t = ![t.val % 8, 0]
    ∧ win0_2.index t = ![t.val / 8, 0, 0] ∧ win0_3.index t = ![t.val / 8, 0, 0] ∧ win0_4.index t = ![t.val % 8, 0] :=
  (by decide +kernel : ∀ t : Fin grid0.N, _)

theorem expert_of : ∀ t : Fin cfg0.N, (grid0.coords t 0).val = t.val / 8 :=
  (by decide +kernel : ∀ t : Fin grid0.N, _)

theorem points_lt (t : Fin cfg0.N) : t.val < 64 := t.isLt

theorem hidden_block (c : Dev nD) (t : Fin cfg0.N) (r : Fin 256) (l : Fin 1024) :
    (iblk m c 0 t : FVec Ideal S256x1024 .f32) (ix2 r l)
      = (m ((c.tc : Thread nD τ).loc main_arg0) : FVec Ideal S2048x1024 .f32)
          (ix2 ⟨256 * (t.val % 8) + r.val, by omega⟩ l) := by
  have := points_lt t
  blk_point [iblk, V, idx t]

theorem score_block (c : Dev nD) (t : Fin cfg0.N) (r : Fin 256) (e : Fin 8) :
    (iblk m c 1 t : FVec Ideal S256x8 .f32) (ix2 r e)
      = (m ((c.tc : Thread nD τ).loc main_arg1) : FVec Ideal S2048x8 .f32)
          (ix2 ⟨256 * (t.val % 8) + r.val, by omega⟩ e) := by
  have := points_lt t
  blk_point [iblk, V, idx t]

theorem first_block (c : Dev nD) (t : Fin cfg0.N) (n : Fin 4096) (l : Fin 1024) :
    (iblk m c 2 t : FVec Ideal S1x4096x1024 .bf16) (ix3 0 n l)
      = (m ((c.tc : Thread nD τ).loc main_arg2) : FVec Ideal S8x4096x1024 .f32)
          (ix3 ⟨t.val / 8, by have := points_lt t; omega⟩ n l) := by
  have := points_lt t
  blk_point [iblk, V, idx t]

theorem second_block (c : Dev nD) (t : Fin cfg0.N) (d : Fin 1024) (k : Fin 2048) :
    (iblk m c 3 t : FVec Ideal S1x1024x2048 .bf16) (ix3 0 d k)
      = (m ((c.tc : Thread nD τ).loc main_arg3) : FVec Ideal S8x1024x2048 .f32)
          (ix3 ⟨t.val / 8, by have := points_lt t; omega⟩ d k) := by
  have := points_lt t
  blk_point [iblk, V, idx t]

end Cert.KernelIdeal.Body
-- ==== Proof.LastFlush.lean ====
/-
  What an output array holds at the end where a block is written back several times: the block of a point whose place no
  later point writes reads, after the run, what that point wrote.
-/
module

public import Idealize.ShloMosaic.Lib.Pipeline.ValueKit

@[expose] public section

noncomputable section

namespace Cert.LastFlush

open Idealize.ShloMosaic Idealize.ShloMosaic.TcCoe
open Idealize.SL Idealize.SL.RA Idealize.SL.Sem
open Idealize.ShloMosaic.Pipeline (Dat Cfg)

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (dat : Dat τ Val Ix Name U Lvl cfg c)

/-- No point from `n` up to `n + k` touches the entry `i`, so it stays as it was. -/
theorem arrAt_stays (w : Fin cfg.W) (n : ℕ) (i : ((cfg.win w).arr.view.loc (c.tc : Thread nD τ)).2.ty.Idx)
    (h : ∀ u : Fin cfg.N, n ≤ u.val → i ∉ ((cfg.win w).blk u).view.set) (k : ℕ) :
    dat.arrAt w (n + k) i = dat.arrAt w n i := by
  induction k with
  | zero => rfl
  | succ k ih =>
    refine (dat.arrAt_succ_apply w (n + k) i).trans ?_
    by_cases hk : n + k < cfg.N
    · rw [dif_pos hk]
      by_cases hf : (cfg.win w).flush ⟨n + k, hk⟩ = true
      · rw [if_pos hf, View.write_of_not_mem _ _ _ (by rw [View.setOn_univ]; exact h _ (Nat.le_add_right n k))]
        exact ih
      · rw [if_neg hf]; exact ih
    · rw [dif_neg hk]; exact ih

/-- The block of a flushing point that no later point's block meets reads, after the run, what the point flushed. -/
theorem read_last (w : Fin cfg.W) (t : Fin cfg.N) (hf : (cfg.win w).flush t = true)
    (h : ∀ u : Fin cfg.N, t.val < u.val → Disjoint ((cfg.win w).blk t).view.set ((cfg.win w).blk u).view.set) :
    ((cfg.win w).blk t).view.read Val (dat.arrAt w cfg.N) = dat.flushed w t := by
  obtain ⟨k, hN⟩ := Nat.exists_eq_add_of_le t.isLt
  refine (View.read_congr (g := dat.arrAt w (t.val + 1)) fun i hi => ?_).trans ?_
  · exact (congrArg (fun n => dat.arrAt w n i) hN).trans
      (arrAt_stays dat w (t.val + 1) i (fun u hu => Finset.disjoint_left.mp (h u hu) hi) k)
  · rw [dat.arrAt_succ, if_pos hf]
    exact View.read_write_univ _ _

end Cert.LastFlush
-- ==== Proof.KernelValue.lean ====
/-
  The kernel's result, element by element: the accumulator after the last expert holds the layer's formula, and the result
  array holds what the last expert's grid points wrote.
-/
module

public import proofs.«01_k».proof.Proof.KernelBlocks
public import proofs.«01_k».proof.Proof.LastFlush

@[expose] public section

set_option maxRecDepth 16384

noncomputable section

namespace Cert.KernelIdeal.Body

open Cert.KernelIdeal Cert.KernelIdeal.Gen Cert.TopTwo
open Idealize.ShloMosaic Idealize.ShloMosaic.TcCoe Idealize.SL.Sem

variable (m : (ℓ : Loc nD τ sig) → Buf (Elt Ideal) ℓ)

/-- Expert `e`'s contribution to token `t`'s output at coordinate `d`. -/
def part (c : Dev nD) (t : Fin 2048) (d : Fin 1024) (e : Fin 8) : EReal :=
  (∑ k, gated (fun l => (m ((c.tc : Thread nD τ).loc main_arg0) : FVec Ideal S2048x1024 .f32) (ix2 t l))
      (fun n l => (m ((c.tc : Thread nD τ).loc main_arg2) : FVec Ideal S8x4096x1024 .f32) (ix3 e n l)) k
      * (m ((c.tc : Thread nD τ).loc main_arg3) : FVec Ideal S8x1024x2048 .f32) (ix3 e d k))
    * roundWeight (probs fun e => (m ((c.tc : Thread nD τ).loc main_arg1) : FVec Ideal S2048x8 .f32) (ix2 t e)) e

/-- What a grid point computes is its expert's contribution to its tokens. -/
theorem point_part (c : Dev nD) (t : Fin cfg0.N) (r : Fin 256) (d : Fin 1024) (tok : Fin 2048) (e : Fin 8)
    (htok : tok.val = 256 * (t.val % 8) + r.val) (he : e.val = t.val / 8) :
    k0_pay1 (F := Ideal) (k0_pay4 (grid0.coords t) (iblk m c 1 t)) (k0_pay5 (iblk m c 0 t)) (iblk m c 2 t) (iblk m c 3 t)
        (ix2 r d) = part m c tok d e := by
  have h1 : tok = ⟨256 * (t.val % 8) + r.val, by omega⟩ := Fin.ext htok
  have h2 : e = ⟨t.val / 8, by have := points_lt t; omega⟩ := Fin.ext he
  have h3 : (grid0.coords t 0 : Fin 8) = e := Fin.ext ((expert_of t).trans he.symm)
  refine (product_apply _ _ _ _ r d).trans ?_
  rw [weight_apply, h3]
  unfold part
  have hx : (fun l => (iblk m c 0 t : FVec Ideal S256x1024 .f32) (ix2 r l))
      = fun l => (m ((c.tc : Thread nD τ).loc main_arg0) : FVec Ideal S2048x1024 .f32) (ix2 tok l) :=
    funext fun l => by rw [h1]; exact hidden_block m c t r l
  have hs : (fun k => (iblk m c 1 t : FVec Ideal S256x8 .f32) (ix2 r k))
      = fun k => (m ((c.tc : Thread nD τ).loc main_arg1) : FVec Ideal S2048x8 .f32) (ix2 tok k) :=
    funext fun k => by rw [h1]; exact score_block m c t r k
  have ha : (fun n l => (iblk m c 2 t : FVec Ideal S1x4096x1024 .bf16) (ix3 0 n l))
      = fun n l => (m ((c.tc : Thread nD τ).loc main_arg2) : FVec Ideal S8x4096x1024 .f32) (ix3 e n l) :=
    funext fun n => funext fun l => by rw [h2]; exact first_block m c t n l
  have hb : (fun k => (iblk m c 3 t : FVec Ideal S1x1024x2048 .bf16) (ix3 0 d k))
      = fun k => (m ((c.tc : Thread nD τ).loc main_arg3) : FVec Ideal S8x1024x2048 .f32) (ix3 e d k) :=
    funext fun k => by rw [h2]; exact second_block m c t d k
  refine congrArg₂ (· * ·) (Finset.sum_congr rfl fun k _ => congrArg₂ (· * ·) ?_ (congrFun hb k)) ?_
  · exact congrArg₂ (fun x a => gated x a k) hx ha
  · exact congrArg (fun s => roundWeight (probs s) e) hs

/-- `part` at a natural number, zero past the experts. -/
def partN (c : Dev nD) (t : Fin 2048) (d : Fin 1024) (n : ℕ) : EReal := if h : n < 8 then part m c t d ⟨n, h⟩ else 0

/-- The accumulator's rows after expert `e` hold the first experts' contributions. -/
theorem acc_sum (c : Dev nD) (k : ℕ) (hk : k < 8) (r : Fin 256) (d : Fin 1024) (tok : Fin 2048)
    (htok : tok.val = 256 * k + r.val) : ∀ (e : ℕ) (he : e < 8) (h : k + 8 * e < cfg0.N),
    acc m c (k + 8 * e) h (ix2 r d) = ∑ j ∈ Finset.range (e + 1), partN m c tok d j
  | 0, he, h => by
    rw [acc_first m c _ h (by omega), Finset.sum_range_one]
    refine (first_apply _ _ _ _ r d).trans ((point_part m c _ r d tok 0 ?_ ?_).trans ?_)
    · show tok.val = 256 * ((k + 8 * 0) % 8) + r.val
      omega
    · show 0 = (k + 8 * 0) / 8
      omega
    · unfold partN; rw [dif_pos (by omega)]; rfl
  | e + 1, he, h => by
    have ih := acc_sum c k hk r d tok htok e (by omega) (by omega)
    refine (congrFun (acc_next m c (k + 8 * e) h) (ix2 r d)).trans ?_
    rw [Finset.sum_range_succ, ← ih]
    refine (next_apply _ _ _ _ _ r d).trans (congrArg _ ((point_part m c _ r d tok ⟨e + 1, he⟩ ?_ ?_).trans ?_))
    · show tok.val = 256 * ((k + 8 * e + 8) % 8) + r.val
      omega
    · show e + 1 = (k + 8 * e + 8) / 8
      omega
    · unfold partN; rw [dif_pos he]

/-- The kernel's result at a token and a coordinate, over its arguments. -/
def value (c : Dev nD) (t : Fin 2048) (d : Fin 1024) : EReal :=
  layer (fun l => (m ((c.tc : Thread nD τ).loc main_arg0) : FVec Ideal S2048x1024 .f32) (ix2 t l))
    (fun e => (m ((c.tc : Thread nD τ).loc main_arg1) : FVec Ideal S2048x8 .f32) (ix2 t e))
    (fun e n l => (m ((c.tc : Thread nD τ).loc main_arg2) : FVec Ideal S8x4096x1024 .f32) (ix3 e n l))
    (fun e k => (m ((c.tc : Thread nD τ).loc main_arg3) : FVec Ideal S8x1024x2048 .f32) (ix3 e d k))

theorem acc_last (c : Dev nD) (k : ℕ) (hk : k < 8) (r : Fin 256) (d : Fin 1024) (tok : Fin 2048)
    (htok : tok.val = 256 * k + r.val) (h : k + 8 * 7 < cfg0.N) :
    acc m c (k + 8 * 7) h (ix2 r d) = value m c tok d := by
  refine (acc_sum m c k hk r d tok htok 7 (by omega) h).trans ?_
  refine (Finset.sum_range (partN m c tok d)).trans ?_
  unfold value layer
  refine Finset.sum_congr rfl fun e _ => ?_
  unfold partN
  rw [dif_pos e.isLt]
  rfl

theorem flushes : ∀ t : Fin cfg0.N, (cfg0.win 4).flush t = true := (by decide +kernel : ∀ t : Fin grid0.N, _)

/-- The points of the last expert are the last to write their blocks. -/
theorem later_disjoint (t u : Fin cfg0.N) (ht : 56 ≤ t.val) (hu : t.val < u.val) :
    Disjoint ((cfg0.win 4).blk t).view.set ((cfg0.win 4).blk u).view.set := by
  refine Pipeline.Window.disjoint_blk (cfg0.win 4) fun h => ?_
  have h' : win0_4.index t = win0_4.index u := h
  rw [(idx t).2.2.2.2, (idx u).2.2.2.2] at h'
  have h0 : t.val % 8 = u.val % 8 := congrFun h' 0
  have := points_lt t; have := points_lt u
  omega

theorem result_apply (c : Dev nD) (tok : Fin 2048) (d : Fin 1024) :
    ((dats m 0 c).arrAt 4 cfg0.N : FVec Ideal S2048x1024 .f32) (ix2 tok d) = value m c tok d := by
  have hk : tok.val / 256 < 8 := by omega
  have ht : tok.val / 256 + 8 * 7 < cfg0.N := by show _ < 64; omega
  have hl := LastFlush.read_last (dats m 0 c) 4 ⟨_, ht⟩ (flushes _) fun u hu => later_disjoint _ u (by simp only; omega) hu
  have hy := congrFun hl (ix2 ⟨tok.val % 256, by omega⟩ d)
  rw [← acc_last m c (tok.val / 256) hk ⟨tok.val % 256, by omega⟩ d tok (by simp only; omega) ht]
  have hafter := congrFun (after0_4 m c ⟨_, ht⟩) (ix2 ⟨tok.val % 256, by omega⟩ d)
  refine Eq.trans ?_ (hy.trans hafter)
  blk_ext [idx ⟨_, ht⟩]

/-- The run: the result array as the pipeline leaves it, the arguments as they were. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main m ρ)

end Cert.KernelIdeal.Body
-- ==== Proof.ReferenceRouter.lean ====
/-
  The reference's routing weights, element by element: the softmax of the scores, the two greatest probabilities of
  each token, their shares, and the table of weights that a scatter of the shares gives.
-/
module

public import proofs.«01_k».proof.Proof.Layer
public import proofs.«01_k».proof.Proof.Gen.ReferenceIdeal
public import Idealize.ShloMosaic.Lib.Pipeline.ValueKit
public import Idealize.ShloMosaic.Lib.ScatterToDense.RefScatter

@[expose] public section

set_option maxRecDepth 16384

noncomputable section

namespace Cert.ReferenceIdeal.Router

open Cert.ReferenceIdeal Cert.ReferenceIdeal.Gen Cert.TopTwo
open Idealize.ShloMosaic Idealize.ShloMosaic.TcCoe Idealize.ShloMosaic.ScatterToDense

/-- The softmax of the scores, row by row. -/
def soft (l : FVec Ideal S2048x8 .f32) : FVec Ideal S2048x8 .f32 :=
  let top := maximumf (broadcastInDim S2048 ![] bcast_S_S2048 (constant S_ .f32 0xFF800000#32))
    (Host.reduce FloatOps.maximumf l (constant S_ .f32 0xFF800000#32) reducesTo_S2048x8_S2048_d1 h_S_)
  let ex := Host.exp (subf l (broadcastInDim S2048x8 ![0, 1] bcast_S2048x1_S2048x8_0_1
    (broadcastInDim S2048x1 ![0] bcast_S2048_S2048x1_0 top)))
  Host.divf ex (broadcastInDim S2048x8 ![0, 1] bcast_S2048x1_S2048x8_0_1
    (broadcastInDim S2048x1 ![0] bcast_S2048_S2048x1_0
      (Host.reduceAdd ex (constant S_ .f32 0x00000000#32) reducesTo_S2048x8_S2048_d1 h_S_)))

theorem soft_apply (l : FVec Ideal S2048x8 .f32) (t : Fin 2048) (e : Fin 8) :
    soft l (ix2 t e) = probs (fun k => l (ix2 t k)) e := by
  pointwise [soft]
  simp only [ofBits_bottom, max_eq_right bot_le]
  rfl

/-- The two greatest entries of each row with their positions. -/
def pick (p : FVec Ideal S2048x8 .f32) : FVec Ideal S2048x2 .f32 × IVec S2048x2 32 :=
  Host.topK S2048x2 1 (FloatOps.cmpfTotal .gt) p sliceFits_S2048x8_S2048x2

/-- The order the sort of a row goes by. -/
def ahead (x : Fin 8 → EReal) (k k' : Fin 8) : Bool := Ideal.cmpTotal .gt (x k) (x k') == 1#1

theorem ahead_iff (x : Fin 8 → EReal) (a b : Fin 8) : ahead x a b = true ↔ x b < x a := by
  have h : Ideal.cmpTotal .gt (x a) (x b) = BitVec.ofBool (decide (x b < x a)) := rfl
  unfold ahead
  rw [h]
  by_cases hx : x b < x a <;> simp [hx]

/-- The position that holds a row's `n`-th greatest entry, counting from zero. -/
def pos (x : Fin 8 → EReal) (n : Nat) : Fin 8 := sortedFrom (ahead x) (if n = 0 then 0 else 1)

theorem pos_pair (x : Fin 8 → EReal) : Pair x (pos x 0) (pos x 1) := sorted_pair x (ahead x) (ahead_iff x)

theorem along_row (t : Fin 2048) (c k : Fin 8) : (ix2 t c : S2048x8.Idx).along 1 k = ix2 t k := by
  funext a
  match a with
  | 0 => rfl
  | 1 => rfl

/-- The row index the sort reads its `k`-th entry at. -/
theorem along_pos (p : FVec Ideal S2048x8 .f32) (t : Fin 2048) (c : Fin 8) (k : Fin 2) (hk : k.val < 8) :
    (ix2 t c : S2048x8.Idx).along 1 (sortedFrom (n := 8)
        (fun a b => FloatOps.cmpfTotal (F := Ideal) (φ := .f32) .gt (p ((ix2 t c : S2048x8.Idx).along 1 a))
          (p ((ix2 t c : S2048x8.Idx).along 1 b)) == 1#1) ⟨k.val, hk⟩)
      = ix2 t (pos (fun e => p (ix2 t e)) k.val) := by
  have hf : (fun a b : Fin 8 => FloatOps.cmpfTotal (F := Ideal) (φ := .f32) .gt (p ((ix2 t c : S2048x8.Idx).along 1 a))
      (p ((ix2 t c : S2048x8.Idx).along 1 b)) == 1#1) = ahead fun e => p (ix2 t e) :=
    funext fun a => funext fun b => by rw [along_row t c a, along_row t c b]; rfl
  rw [hf]
  refine (along_row t c _).trans (congrArg (ix2 t) (congrArg (sortedFrom _) ?_))
  match k with
  | 0 => rfl
  | 1 => rfl

theorem pick_values (p : FVec Ideal S2048x8 .f32) (t : Fin 2048) (k : Fin 2) :
    (pick p).1 (ix2 t k) = p (ix2 t (pos (fun e => p (ix2 t e)) k.val)) := by
  pointwise [pick, Host.topK, Host.sort2]
  exact congrArg p (along_pos p t _ k _)

theorem pick_places (p : FVec Ideal S2048x8 .f32) (t : Fin 2048) (k : Fin 2) :
    (pick p).2 (ix2 t k) = BitVec.ofNat 32 (pos (fun e => p (ix2 t e)) k.val).val := by
  pointwise [pick, Host.topK, Host.sort2]
  exact congrArg (fun j : S2048x8.Idx => BitVec.ofNat 32 (j 1).val) (along_pos p t _ k _)

/-- The index pairs of the scatter: the token, and the position picked for it. -/
def pairs (idx : IVec S2048x2 32) : IVec S2048x2x2 32 :=
  let tok : IVec S2048x1 32 := broadcastInDim S2048x1 ![0] bcast_S2048_S2048x1_0 (iotaInDim S2048 32 0)
  let tok' : IVec S2048x1 32 := select (cmpi .slt tok (broadcastInDim S2048x1 ![] bcast_S_S2048x1 (constantI S_ 32 0#32)))
    (addi tok (broadcastInDim S2048x1 ![] bcast_S_S2048x1 (constantI S_ 32 2048#32))) tok
  let idx' : IVec S2048x2 32 := select (cmpi .slt idx (broadcastInDim S2048x2 ![] bcast_S_S2048x2 (constantI S_ 32 0#32)))
    (addi idx (broadcastInDim S2048x2 ![] bcast_S_S2048x2 (constantI S_ 32 8#32))) idx
  concatenate S2048x2x2 2
    [⟨S2048x2x1, broadcastInDim S2048x2x1 ![0, 1] bcast_S2048x2_S2048x2x1_0_1
        (broadcastInDim S2048x2 ![0, 1] bcast_S2048x1_S2048x2_0_1 tok')⟩,
      ⟨S2048x2x1, broadcastInDim S2048x2x1 ![0, 1] bcast_S2048x2_S2048x2x1_0_1 idx'⟩]
    concatenates_S2048x2x1_S2048x2x1_S2048x2x2_d2

theorem pairs_token (idx : IVec S2048x2 32) (t : Fin 2048) (k : Fin 2) : pairs idx (ix3 t k 0) = BitVec.ofNat 32 t.val := by
  pointwise [pairs]
  refine Routing.wrap_of_lt _ _ ?_
  rw [BitVec.toNat_ofNat]
  omega

theorem pairs_place (idx : IVec S2048x2 32) (t : Fin 2048) (k : Fin 2) (h : (idx (ix2 t k)).toNat < 2 ^ 31) :
    pairs idx (ix3 t k 1) = idx (ix2 t k) := by
  pointwise [pairs]
  exact Routing.wrap_of_lt _ _ h

/-- Each of a row's two values divided by the two's sum. -/
def shares (v : FVec Ideal S2048x2 .f32) : FVec Ideal S2048x2 .f32 :=
  Host.divf v (broadcastInDim S2048x2 ![0, 1] bcast_S2048x1_S2048x2_0_1
    (broadcastInDim S2048x1 ![0] bcast_S2048_S2048x1_0
      (Host.reduceAdd v (constant S_ .f32 0x00000000#32) reducesTo_S2048x2_S2048_d1 h_S_)))

theorem shares_apply (v : FVec Ideal S2048x2 .f32) (t : Fin 2048) (k : Fin 2) :
    shares v (ix2 t k) = Ideal.div (v (ix2 t k)) (v (ix2 t 0) + v (ix2 t 1)) := by
  pointwise [shares]
  rw [Fin.sum_univ_two]

/-- The table of weights. -/
def weights (l : FVec Ideal S2048x8 .f32) : FVec Ideal S2048x8 .f32 :=
  Host.scatter scatter_S2048x8_S2048x2x2_S2048x2_n_01_01_2 (fun _ b => b)
    (broadcastInDim S2048x8 ![] bcast_S_S2048x8 (constant S_ .f32 0x00000000#32))
    (pairs (pick (soft l)).2) (shares (pick (soft l)).1)

theorem toNat_small (k : Fin 8) : (BitVec.ofNat 32 k.val).toNat = k.val := by revert k; decide

theorem weights_apply (l : FVec Ideal S2048x8 .f32) (t : Fin 2048) (e : Fin 8) :
    weights l (ix2 t e) = roundWeight (probs fun k => l (ix2 t k)) e := by
  have hrow : ∀ r : Fin 2048, (fun e => soft l (ix2 r e)) = probs fun k => l (ix2 r k) :=
    fun r => funext fun e => soft_apply l r e
  rw [roundWeight_eq _ _ _ (pos_pair _) e]
  unfold weights
  refine (scatter_eq_GS scatter_S2048x8_S2048x2x2_S2048x2_n_01_01_2 rfl rfl rfl (by norm_num) (by norm_num) _ _ _
    (fun r n => BitVec.ofNat 32 (pos (probs fun k => l (ix2 r k)) n).val)
    (fun r n => Ideal.div (probs (fun k => l (ix2 r k)) (pos (probs fun k => l (ix2 r k)) n))
      (probs (fun k => l (ix2 r k)) (pos (probs fun k => l (ix2 r k)) 0)
        + probs (fun k => l (ix2 r k)) (pos (probs fun k => l (ix2 r k)) 1)))
    (fun r k => pairs_token _ r k) (fun r k => ?_) (fun r k => ?_) t e).trans ?_
  · have h := pick_places (soft l) r k
    rw [hrow] at h
    refine (pairs_place _ r k ?_).trans h
    rw [h, toNat_small]
    omega
  · refine (shares_apply _ r k).trans ?_
    rw [pick_values, pick_values, pick_values]
    simp only [hrow, soft_apply]
    rfl
  · rw [GS_succ, GS_succ, GS_zero]
    simp only [toNat_small, ← Fin.ext_iff]
    unfold share
    refine if_congr Iff.rfl rfl (if_congr Iff.rfl rfl ?_)
    pointwise

end Cert.ReferenceIdeal.Router
-- ==== Proof.ReferenceValue.lean ====
/-
  The reference's result, element by element, and its run: it ends with the layer's formula in its result, its arguments
  as they were and every counter at zero.
-/
module

public import proofs.«01_k».proof.Proof.ReferenceRouter
public import proofs.«01_k».proof.Proof.Gen.ReferenceIdeal.Run
public import Idealize.ShloMosaic.Lib.Quiescent

@[expose] public section

set_option maxRecDepth 16384

noncomputable section

namespace Cert.ReferenceIdeal.Router

open Cert.ReferenceIdeal Cert.ReferenceIdeal.Gen Cert.TopTwo
open Idealize.ShloMosaic Idealize.ShloMosaic.TcCoe Idealize.SL.Sem

/-- Every expert's output for every token, unweighted. -/
def experts (x : FVec Ideal S2048x1024 .f32) (a : FVec Ideal S8x4096x1024 .f32) (b : FVec Ideal S8x1024x2048 .f32) :
    FVec Ideal S2048x8x1024 .f32 :=
  let h := Host.dotGeneral dot_S2048x1024_S8x4096x1024_S2048x8x4096_1_2_0_01_n_n none x a
  let gate := extractStridedSlice S2048x8x2048 ![0, 0, 0] h slices_S2048x8x4096_S2048x8x2048_0_0_0
  let one := broadcastInDim S2048x8x2048 ![] bcast_S_S2048x8x2048 (constant S_ .f32 0x3F800000#32)
  let act := mulf gate (Host.divf one (addf one (Host.exp (Host.negf gate))))
  let up := extractStridedSlice S2048x8x2048 ![0, 0, 2048] h slices_S2048x8x4096_S2048x8x2048_0_0_2048
  transpose S2048x8x1024 [2, 0, 1]
    (Host.dotGeneral dot_S8x1024x2048_S2048x8x2048_S8x1024x2048_2_2_1_0_0_1 none b (mulf act up))
    transposes_S8x1024x2048_S2048x8x1024_2_0_1

theorem experts_apply (x : FVec Ideal S2048x1024 .f32) (a : FVec Ideal S8x4096x1024 .f32)
    (b : FVec Ideal S8x1024x2048 .f32) (t : Fin 2048) (e : Fin 8) (d : Fin 1024) :
    experts x a b (ix3 t e d)
      = ∑ k : Fin 2048, gated (fun l => x (ix2 t l)) (fun n l => a (ix3 e n l)) k * b (ix3 e d k) := by
  pointwise [experts]
  exact Finset.sum_congr rfl fun k _ => mul_comm _ _

/-- The weighted sum over the experts. -/
def mixed (w : FVec Ideal S2048x8 .f32) (y : FVec Ideal S2048x8x1024 .f32) : FVec Ideal S2048x1024 .f32 :=
  Host.dotGeneral dot_S2048x8_S2048x8x1024_S2048x1024_1_1_n_2_0_0 none w y

theorem mixed_apply (w : FVec Ideal S2048x8 .f32) (y : FVec Ideal S2048x8x1024 .f32) (t : Fin 2048) (d : Fin 1024) :
    mixed w y (ix2 t d) = ∑ e : Fin 8, y (ix3 t e d) * w (ix2 t e) := by
  pointwise [mixed]
  exact Finset.sum_congr rfl fun e _ => mul_comm _ _

theorem mixed_experts_apply (x : FVec Ideal S2048x1024 .f32) (l : FVec Ideal S2048x8 .f32)
    (a : FVec Ideal S8x4096x1024 .f32) (b : FVec Ideal S8x1024x2048 .f32) (t : Fin 2048) (d : Fin 1024) :
    mixed (weights l) (experts x a b) (ix2 t d)
      = layer (fun l => x (ix2 t l)) (fun e => l (ix2 t e)) (fun e n l => a (ix3 e n l)) (fun e k => b (ix3 e d k)) := by
  refine (mixed_apply _ _ t d).trans (Finset.sum_congr rfl fun e _ => ?_)
  rw [experts_apply, weights_apply]

variable (m : (ℓ : Loc nD τ sig) → Buf (Elt Ideal) ℓ)

/-- The reference's result at a token and a coordinate. -/
theorem result_apply (c : Dev nD) (t : Fin 2048) (d : Fin 1024) :
    Value.res_out0 (F := Ideal) m c (ix2 t d)
      = layer (fun l => (m ((c.tc : Thread nD τ).loc main_arg0) : FVec Ideal S2048x1024 .f32) (ix2 t l))
          (fun e => (m ((c.tc : Thread nD τ).loc main_arg1) : FVec Ideal S2048x8 .f32) (ix2 t e))
          (fun e n l => (m ((c.tc : Thread nD τ).loc main_arg2) : FVec Ideal S8x4096x1024 .f32) (ix3 e n l))
          (fun e k => (m ((c.tc : Thread nD τ).loc main_arg3) : FVec Ideal S8x1024x2048 .f32) (ix3 e d k)) :=
  mixed_experts_apply _ _ _ _ t d

/-- The reference has no semaphores, so its counters are at zero in every state. -/
theorem run_quiescent (g : Dev nD → PrngReg) :
    θ_run (defs (F := Ideal)) (onTc (τ := τ) (main (F := Ideal))) ⟨m, fun _ => 0, g⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems rfl r.2⟩) (Value.run m g)

end Cert.ReferenceIdeal.Router
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- The kernel and the reference, run from equal arguments, end with equal results. -/
theorem algebraic : algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Body.dats m 0 c).arrAt 4 Cert.KernelIdeal.cfg0.N,
    Cert.KernelIdeal.Body.run_value m g, (θ_run _ _ _).mono (fun r h c => ⟨(h c).1.trans ?_, (h c).2⟩)
      (Cert.ReferenceIdeal.Value.run (F := Ideal) m' g')⟩
  funext i
  have hi : i = (ix2 (i 0) (i 1) : Cert.ReferenceIdeal.S2048x1024.Idx) := by
    funext a
    match a with
    | 0 => rfl
    | 1 => rfl
  rw [hi]
  refine (Cert.ReferenceIdeal.Router.result_apply m' c (i 0) (i 1)).trans
    (Eq.trans ?_ (Cert.KernelIdeal.Body.result_apply m c (i 0) (i 1)).symm)
  unfold Cert.KernelIdeal.Body.value
  rw [(hagree c).1, (hagree c).2.1, (hagree c).2.2.1, (hagree c).2.2.2]

/-- All five claims. -/
theorem claim : Cert.Claim :=
  ⟨Cert.Kernel.Gen.facts, Cert.KernelIdeal.Gen.facts, Cert.ReferenceIdeal.Gen.facts,
    fun m g _ => Cert.Kernel.Body.quiescent m g,
    fun m g _ => Cert.KernelIdeal.Body.quiescent m g,
    fun m g _ => Cert.ReferenceIdeal.Router.run_quiescent m g,
    trivial, algebraic⟩

end Cert.Proof

end
